-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_not_all_minus_infinity [hPre_rows_not_all_minus_infinity : Cert.Pre_rows_not_all_minus_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_rows_not_all_minus_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_not_all_minus_infinity [hPre_rows_not_all_minus_infinity : Cert.Pre_rows_not_all_minus_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_not_all_minus_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rows_not_all_minus_infinity [hKernelIdeal : Cert.KernelIdeal.Facts] [hPre_rows_not_all_minus_infinity : Cert.Pre_rows_not_all_minus_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_not_all_minus_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rows_not_all_minus_infinity [hReferenceIdeal : Cert.ReferenceIdeal.Facts] [hPre_rows_not_all_minus_infinity : Cert.Pre_rows_not_all_minus_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_not_all_minus_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_rows_not_all_minus_infinity [hKernelIdeal : Cert.KernelIdeal.Facts] [hReferenceIdeal : Cert.ReferenceIdeal.Facts] [hPre_rows_not_all_minus_infinity : Cert.Pre_rows_not_all_minus_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_not_all_minus_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_rows_not_all_minus_infinity : Cert.Pre_rows_not_all_minus_infinity.Facts),
    quiescent_Kernel (hKernel := hKernel)
    ∧ quiescent_KernelIdeal (hKernelIdeal := hKernelIdeal)
    ∧ quiescent_KernelIdeal_pre_rows_not_all_minus_infinity (hKernelIdeal := hKernelIdeal) (hPre_rows_not_all_minus_infinity := hPre_rows_not_all_minus_infinity)
    ∧ quiescent_ReferenceIdeal (hReferenceIdeal := hReferenceIdeal)
    ∧ quiescent_ReferenceIdeal_pre_rows_not_all_minus_infinity (hReferenceIdeal := hReferenceIdeal) (hPre_rows_not_all_minus_infinity := hPre_rows_not_all_minus_infinity)
    ∧ preserves_Kernel_KernelIdeal
    ∧ algebraic_KernelIdeal_ReferenceIdeal_pre_rows_not_all_minus_infinity (hKernelIdeal := hKernelIdeal) (hReferenceIdeal := hReferenceIdeal) (hPre_rows_not_all_minus_infinity := hPre_rows_not_all_minus_infinity)
-- ==== Pre_rows_not_all_minus_infinity.lean ====
abbrev S16384x1000 : Shape := ⟨2, ![16384, 1000]⟩
abbrev S_ : Shape := ⟨0, ![]⟩
abbrev S16384 : Shape := ⟨1, ![16384]⟩

class Facts : Prop where
  reducesTo_S16384x1000_S16384_d1 : S16384x1000.ReducesTo [1] S16384
  h_S_ : 0 < S_.numel
  bcast_S_S16384 : S_.BroadcastsInDim S16384 (![] : Fin 0 → Fin S16384.rank)

variable [Facts]

def fn {F : FTy → Type} [FloatOps F] (main_arg0 : FVec F S16384x1000 .f32) (main_arg1 : FVec F S16384x1000 .f32) : IVec S16384 1 :=
  let main_v0 : FVec F S16384x1000 .f32 := addf main_arg0 main_arg1
  let main_cst : FVec F S_ .f32 := constant S_ .f32 0xFF800000#32
  let main_v1 : FVec F S16384 .f32 := (fun x v => Host.reduce FloatOps.maximumf x v reducesTo_S16384x1000_S16384_d1 h_S_) main_v0 main_cst
  let main_cst_0 : FVec F S_ .f32 := constant S_ .f32 0xFF800000#32
  let main_v2 : FVec F S16384 .f32 := broadcastInDim S16384 ![] bcast_S_S16384 main_cst_0
  let main_v3 : IVec S16384 1 := cmpf .ogt main_v1 main_v2
  main_v3
-- ==== Kernel.lean ====
abbrev S16384x1000 : Shape := ⟨2, ![16384, 1000]⟩
abbrev S256x1000 : Shape := ⟨2, ![256, 1000]⟩
abbrev S256 : Shape := ⟨1, ![256]⟩
abbrev S256x1 : Shape := ⟨2, ![256, 1]⟩

abbrev nBuf : Space → Nat
  | .hbm => 3
  | .vmem => 6
  | .smem => 0
  | _ => 0

abbrev bufTy : (tb : Table) → Fin (tcTables nBuf tb) → BufTy
  | .hbm, ⟨0, _⟩ => ⟨S16384x1000, .f32⟩
  | .hbm, ⟨1, _⟩ => ⟨S16384x1000, .f32⟩
  | .hbm, ⟨2, _⟩ => ⟨S16384x1000, .f32⟩
  | .local _ .vmem, ⟨0, _⟩ => ⟨S256x1000, .f32⟩
  | .local _ .vmem, ⟨1, _⟩ => ⟨S256x1000, .f32⟩
  | .local _ .vmem, ⟨2, _⟩ => ⟨S256x1000, .f32⟩
  | .local _ .vmem, ⟨3, _⟩ => ⟨S256x1000, .f32⟩
  | .local _ .vmem, ⟨4, _⟩ => ⟨S256x1000, .f32⟩
  | .local _ .vmem, ⟨5, _⟩ => ⟨S256x1000, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S16384x1000 : Shape := ⟨2, ![16384, 1000]⟩
abbrev S_ : Shape := ⟨0, ![]⟩
abbrev S16384 : Shape := ⟨1, ![16384]⟩
abbrev S16384x1 : Shape := ⟨2, ![16384, 1]⟩
abbrev S1x1000 : Shape := ⟨2, ![1, 1000]⟩
abbrev S1x2 : Shape := ⟨2, ![1, 2]⟩
abbrev S1 : Shape := ⟨1, ![1]⟩
abbrev S1x1 : Shape := ⟨2, ![1, 1]⟩
abbrev S1x2x1 : Shape := ⟨3, ![1, 2, 1]⟩
abbrev S1x2x2 : Shape := ⟨3, ![1, 2, 2]⟩

abbrev nBuf : Space → Nat
  | .hbm => 64
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S16384x1000, .f32⟩
  | .hbm, ⟨2, _⟩ => ⟨S16384x1000, .f32⟩
  | .hbm, ⟨3, _⟩ => ⟨S_, .f32⟩
  | .hbm, ⟨4, _⟩ => ⟨S16384x1000, .f32⟩
  | .hbm, ⟨5, _⟩ => ⟨S16384x1000, .f32⟩
  | .hbm, ⟨6, _⟩ => ⟨S_, .f32⟩
  | .hbm, ⟨7, _⟩ => ⟨S16384, .f32⟩
  | .hbm, ⟨8, _⟩ => ⟨S_, .f32⟩
  | .hbm, ⟨9, _⟩ => ⟨S16384, .f32⟩
  | .hbm, ⟨10, _⟩ => ⟨S16384, .f32⟩
  | .hbm, ⟨11, _⟩ => ⟨S16384x1, .f32⟩
  | .hbm, ⟨12, _⟩ => ⟨S16384x1000, .f32⟩
  | .hbm, ⟨13, _⟩ => ⟨S16384x1000, .f32⟩
  | .hbm, ⟨14, _⟩ => ⟨S16384x1000, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S16384x1000, .f32⟩
  | .hbm, ⟨19, _⟩ => ⟨S16384x1000, .f32⟩
  | .hbm, ⟨20, _⟩ => ⟨S16384x1000, .i32⟩
  | .hbm, ⟨21, _⟩ => ⟨S_, .f32⟩
  | .hbm, ⟨22, _⟩ => ⟨S_, .i32⟩
  | .hbm, ⟨23, _⟩ => ⟨S16384, .f32⟩
  | .hbm, ⟨24, _⟩ => ⟨S16384, .i32⟩
  | .hbm, ⟨25, _⟩ => ⟨S16384x1, .i32⟩
  | .hbm, ⟨26, _⟩ => ⟨S1x1000, .i32⟩
  | .hbm, ⟨27, _⟩ => ⟨S16384x1000, .i32⟩
  | .hbm, ⟨28, _⟩ => ⟨S16384x1000, .i32⟩
  | .hbm, ⟨29, _⟩ => ⟨S16384x1000, .i1⟩
  | .hbm, ⟨30, _⟩ => ⟨S16384x1000, .f32⟩
  | .hbm, ⟨31, _⟩ => ⟨S16384x1000, .f32⟩
  | .hbm, ⟨32, _⟩ => ⟨S16384x1000, .f32⟩
  | .hbm, ⟨33, _⟩ => ⟨S_, .f32⟩
  | .hbm, ⟨34, _⟩ => ⟨S16384x1000, .f32⟩
  | .hbm, ⟨35, _⟩ => ⟨S16384x1000, .i1⟩
  | .hbm, ⟨36, _⟩ => ⟨S_, .f32⟩
  | .hbm, ⟨37, _⟩ => ⟨S16384x1000, .f32⟩
  | .hbm, ⟨38, _⟩ => ⟨S16384x1000, .f32⟩
  | .hbm, ⟨39, _⟩ => ⟨S_, .i32⟩
  | .hbm, ⟨40, _⟩ => ⟨S1x2, .i32⟩
  | .hbm, ⟨41, _⟩ => ⟨S1, .i32⟩
  | .hbm, ⟨42, _⟩ => ⟨S1x1, .i32⟩
  | .hbm, ⟨43, _⟩ => ⟨S1x2, .i32⟩
  | .hbm, ⟨44, _⟩ => ⟨S_, .f32⟩
  | .hbm, ⟨45, _⟩ => ⟨S1x2, .f32⟩
  | .hbm, ⟨46, _⟩ => ⟨S_, .i32⟩
  | .hbm, ⟨47, _⟩ => ⟨S1x2, .i32⟩
  | .hbm, ⟨48, _⟩ => ⟨S1x2, .i1⟩
  | .hbm, ⟨49, _⟩ => ⟨S_, .i32⟩
  | .hbm, ⟨50, _⟩ => ⟨S1x2, .i32⟩
  | .hbm, ⟨51, _⟩ => ⟨S1x2, .i32⟩
  | .hbm, ⟨52, _⟩ => ⟨S1x2, .i32⟩
  | .hbm, ⟨53, _⟩ => ⟨S_, .i32⟩
  | .hbm, ⟨54, _⟩ => ⟨S1x2, .i32⟩
  | .hbm, ⟨55, _⟩ => ⟨S1x2, .i1⟩
  | .hbm, ⟨56, _⟩ => ⟨S_, .i32⟩
  | .hbm, ⟨57, _⟩ => ⟨S1x2, .i32⟩
  | .hbm, ⟨58, _⟩ => ⟨S1x2, .i32⟩
  | .hbm, ⟨59, _⟩ => ⟨S1x2, .i32⟩
  | .hbm, ⟨60, _⟩ => ⟨S1x2x1, .i32⟩
  | .hbm, ⟨61, _⟩ => ⟨S1x2x1, .i32⟩
  | .hbm, ⟨62, _⟩ => ⟨S1x2x2, .i32⟩
  | .hbm, ⟨63, _⟩ => ⟨S16384x1000, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v14 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_c : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_c_7 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_8 : Ref sig .tc := ⟨.hbm, 53, rfl⟩
abbrev main_v32 : Ref sig .tc := ⟨.hbm, 54, rfl⟩
abbrev main_v33 : Ref sig .tc := ⟨.hbm, 55, rfl⟩
abbrev main_c_9 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩

abbrev nD : Nat := 1
abbrev τ : Topo := Topo.v7x

variable {F : FTy → Type} [FloatOps F]
-- ==== Proof.Hot.lean ====
/-
  The value both programs compute, stated once, and the facts about a row's first maximal column that the other modules use.
  A row is a function of its 1000 columns into the extended reals.
-/
module

public import Idealize.ShloMosaic.Lib.Pointwise
public import Idealize.ShloMosaic.PureOps.Ideal.Laws

@[expose] public section

noncomputable section

namespace Cert.HardSample

open Idealize.ShloMosaic

/-- Column `t` is the first column at which the row `s` attains its maximum. -/
def IsTop (s : Fin 1000 → EReal) (t : Fin 1000) : Prop :=
  (∀ k, s k ≤ s t) ∧ ∀ k, s k = s t → t ≤ k

/-- Every row has a first maximal column. -/
theorem exists_isTop (s : Fin 1000 → EReal) : ∃ t, IsTop s t := by
  obtain ⟨b, hb⟩ := Finite.exists_max s
  obtain ⟨t, ht, hmin⟩ := WellFounded.has_min (wellFounded_lt (α := Fin 1000)) {k | s k = s b} ⟨b, rfl⟩
  refine ⟨t, fun k => (hb k).trans ht.symm.le, fun k hk => not_lt.1 (hmin k (hk.trans ht))⟩

/-- It has only one. -/
theorem IsTop.unique {s : Fin 1000 → EReal} {t u : Fin 1000} (ht : IsTop s t) (hu : IsTop s u) : t = u :=
  have e : s t = s u := le_antisymm (hu.1 t) (ht.1 u)
  le_antisymm (ht.2 u e.symm) (hu.2 t e)

/-- The maximum of a row, folded from minus infinity, is its value at the first maximal column. -/
theorem IsTop.fold_max {s : Fin 1000 → EReal} {t : Fin 1000} (ht : IsTop s t) :
    Finset.univ.fold max ⊥ s = s t :=
  le_antisymm ((Finset.fold_max_le _).2 ⟨bot_le, fun k _ => ht.1 k⟩)
    ((Finset.le_fold_max _).2 (Or.inr ⟨t, Finset.mem_univ _, le_rfl⟩))

open Classical in
/-- One row of the result: 1 at the row's first maximal column if the maximum is below plus infinity, and 0 elsewhere. -/
def hot (s : Fin 1000 → EReal) (j : Fin 1000) : EReal :=
  if IsTop s j ∧ s j < ⊤ then 1 else 0

/-- `hot` in terms of a column known to be the first maximal one. -/
theorem IsTop.hot_eq {s : Fin 1000 → EReal} {t : Fin 1000} (ht : IsTop s t) (j : Fin 1000) :
    hot s j = if j = t ∧ s t < ⊤ then 1 else 0 := by
  classical
  unfold hot
  refine if_congr ⟨fun h => ?_, fun h => ?_⟩ rfl rfl
  · obtain rfl := h.1.unique ht
    exact ⟨rfl, h.2⟩
  · rw [h.1]
    exact ⟨ht, h.2⟩

/-- The whole result over `x` and the noise `g`: each row of `x + g` made one-hot, then the element at row 0 and column 1 set to 1. -/
def hard (x g : (⟨2, ![16384, 1000]⟩ : Shape).Idx → EReal) (r : Fin 16384) (j : Fin 1000) : EReal :=
  if r.val = 0 ∧ j.val = 1 then 1 else hot (fun k => x (ix2 r k) + g (ix2 r k)) j

/-- The bit pattern of plus infinity. -/
theorem ofBits_inf : Ideal.ofBits .f32 0x7F800000#32 = ⊤ := by simp [Ideal.ofBits, Ideal.ieee]

/-- The bit pattern of minus infinity. -/
theorem ofBits_neg_inf : Ideal.ofBits .f32 0xFF800000#32 = ⊥ := by simp [Ideal.ofBits, Ideal.ieee]

/-- The bit pattern of one half. -/
theorem ofBits_half : Ideal.ofBits .f32 0x3F000000#32 = ((1 / 2 : ℝ) : EReal) := by
  simp [Ideal.ofBits, Ideal.ieee, -EReal.coe_mul]; norm_num

/-- A column's word, read signed, is the column. -/
theorem toInt_ofNat_col (k : Fin 1000) : (BitVec.ofNat 32 k.val).toInt = (k.val : Int) := by
  have := k.isLt
  rw [BitVec.toInt_eq_toNat_cond, BitVec.toNat_ofNat]
  omega

/-- Two columns with the same word are the same column. -/
theorem ofNat_col_inj {k l : Fin 1000} (h : BitVec.ofNat 32 k.val = BitVec.ofNat 32 l.val) : k = l := by
  have := congrArg BitVec.toInt h
  rw [toInt_ofNat_col, toInt_ofNat_col] at this
  exact Fin.ext (by exact_mod_cast this)

end Cert.HardSample

end
-- ==== Proof.KernelRow.lean ====
/-
  What one block of the kernel computes, read at an element: the maximum of the row, the least column that attains it (a minimum of column words), the one-hot of that column if the maximum is
  below plus infinity, and the element at row 0 and column 1 of the whole array set to 1.
-/
module

public import proofs.«01_k».proof.Proof.Hot
public import proofs.«01_k».proof.Proof.Gen.KernelIdeal.Skeleton

@[expose] public section

set_option maxRecDepth 16384

noncomputable section

namespace Cert.HardSample

open Idealize.ShloMosaic Idealize.ShloMosaic.TcCoe Cert.KernelIdeal Cert.KernelIdeal.Gen

/-- The signed minimum of two words, read signed, is the minimum. -/
theorem toInt_minsi (a b : BitVec 32) : (IntOp.minsi a b).toInt = min a.toInt b.toInt := by
  unfold IntOp.minsi
  rw [BitVec.slt_eq_decide]
  by_cases h : a.toInt < b.toInt
  · simp [h, min_eq_left h.le]
  · simp [h, min_eq_right (not_lt.1 h)]

/-- The least column word among the columns that attain the row's maximum, every other column standing as 1000, is the first maximal column's word. -/
theorem IsTop.fold_minsi {s : Fin 1000 → EReal} {t : Fin 1000} (ht : IsTop s t) :
    Finset.univ.fold IntOp.minsi 2147483647#32 (fun k : Fin 1000 => if s k = s t then BitVec.ofNat 32 k.val else 1000#32)
      = BitVec.ofNat 32 t.val := by
  apply BitVec.eq_of_toInt_eq
  rw [← Finset.fold_hom (op' := min) (m := BitVec.toInt) toInt_minsi, toInt_ofNat_col]
  have hv : ∀ k : Fin 1000, (if s k = s t then BitVec.ofNat 32 k.val else 1000#32).toInt = if s k = s t then (k.val : Int) else 1000 := fun k => by
    split
    · exact toInt_ofNat_col k
    · rfl
  simp only [hv]
  refine le_antisymm ((Finset.fold_min_le _).2 (Or.inr ⟨t, Finset.mem_univ _, by simp⟩)) ((Finset.le_fold_min _).2 ⟨?_, fun k _ => ?_⟩)
  · have := t.isLt
    have e : (2147483647#32).toInt = 2147483647 := rfl
    rw [e]; omega
  · have := t.isLt
    split
    · next h => exact_mod_cast ht.2 k h
    · omega

/-- The row word of row `r` of block `b`, compared with zero, is one exactly at row 0 of block 0. -/
theorem row_word (b : Fin 64) (r : Fin 256) :
    IntOp.cmpi .eq (IntOp.addi (BitVec.ofNat 32 r.val) (Scalar.muli (BitVec.ofNat 32 b.val) 256#32)) 0#32
      = BitVec.ofBool (decide (256 * b.val + r.val = 0)) := by
  have hb := b.isLt
  have hr := r.isLt
  show BitVec.ofBool (decide (BitVec.ofNat 32 r.val + BitVec.ofNat 32 b.val * 256#32 = 0#32)) = _
  refine congrArg BitVec.ofBool (decide_eq_decide.2 ?_)
  rw [← BitVec.toNat_inj]
  simp only [BitVec.toNat_add, BitVec.toNat_mul, BitVec.toNat_ofNat]
  omega

/-- A column's word, compared with one, is one exactly at column 1. -/
theorem col_word (j : Fin 1000) : IntOp.cmpi .eq (BitVec.ofNat 32 j.val) 1#32 = BitVec.ofBool (decide (j.val = 1)) := by
  have hj := j.isLt
  show BitVec.ofBool (decide (BitVec.ofNat 32 j.val = 1#32)) = _
  refine congrArg BitVec.ofBool (decide_eq_decide.2 ?_)
  rw [← BitVec.toNat_inj]
  simp only [BitVec.toNat_ofNat]
  omega

/-- Two column words, compared, are equal exactly if the columns are. -/
theorem cols_word (j t : Fin 1000) : IntOp.cmpi .eq (BitVec.ofNat 32 j.val) (BitVec.ofNat 32 t.val) = BitVec.ofBool (decide (j = t)) := by
  show BitVec.ofBool (decide (BitVec.ofNat 32 j.val = BitVec.ofNat 32 t.val)) = _
  exact congrArg BitVec.ofBool (decide_eq_decide.2 ⟨ofNat_col_inj, fun h => by rw [h]⟩)

/-- A select on the conjunction of two decided conditions. -/
theorem select_and {α : Type} (p q : Prop) [Decidable p] [Decidable q] (a b : α) :
    Scalar.select (IntOp.andi (BitVec.ofBool (decide p)) (BitVec.ofBool (decide q))) a b = if p ∧ q then a else b := by
  by_cases hp : p <;> by_cases hq : q <;> simp [hp, hq, Scalar.select, IntOp.andi]

/-- One block, read at row `r` and column `j`: 1 at row 0 and column 1 of the whole array, elsewhere the one-hot of the row's sums. -/
theorem pay_apply (i : grid0.Coords) (x g : Vec Ideal S256x1000 .f32) (r : Fin 256) (j : Fin 1000) :
    k0_pay1 (F := Ideal) i x g (ix2 r j)
      = if 256 * (i 0).val + r.val = 0 ∧ j.val = 1 then 1 else hot (fun k => x (ix2 r k) + g (ix2 r k)) j := by
  obtain ⟨t, ht⟩ := exists_isTop fun k => x (ix2 r k) + g (ix2 r k)
  rw [ht.hot_eq j]
  pointwise [k0_pay1]
  rw [ofBits_inf, ofBits_neg_inf, ht.fold_max, ht.fold_minsi, row_word (i 0) r, col_word, cols_word, select_and, select_and]

end Cert.HardSample

end
-- ==== Proof.KernelArray.lean ====
/-
  What the kernel's result array holds after its 64 grid points: `hard` of its two arguments, every block of 256 rows by `pay_apply`.
-/
module

public import proofs.«01_k».proof.Proof.KernelRow
public import proofs.«01_k».proof.Proof.Gen.KernelIdeal.Value
public import Idealize.ShloMosaic.Lib.Pipeline.ValueKit

@[expose] public section

set_option maxRecDepth 16384

noncomputable section

namespace Cert.HardSample

open Idealize.ShloMosaic Idealize.ShloMosaic.TcCoe Idealize.SL.Sem Cert.KernelIdeal Cert.KernelIdeal.Gen

variable (m : (ℓ : Loc nD τ sig) → Buf (Elt Ideal) ℓ)

/-- The block of argument 0, of argument 1 and of the result at a grid point is the point's own block of rows. -/
theorem idx0 : ∀ t : Fin grid0.N, win0_0.index t = ![(grid0.coords t 0).val, 0] := by decide +kernel
theorem idx1 : ∀ t : Fin grid0.N, win0_1.index t = ![(grid0.coords t 0).val, 0] := by decide +kernel
theorem idx2 : ∀ t : Fin grid0.N, win0_2.index t = ![(grid0.coords t 0).val, 0] := by decide +kernel

/-- The result array is `hard` of the two argument arrays. -/
theorem arr_eq (c : Dev nD) :
    (dats m 0 c).arrAt 2 cfg0.N = fun i : S16384x1000.Idx =>
      hard (m ((c.tc : Thread nD τ).loc main_arg0)) (m ((c.tc : Thread nD τ).loc main_arg1)) (i 0) (i 1) := by
  refine (dats m 0 c).arrAt_eq_of_covers 2 _ (by decide +kernel) fun t hf y => ?_
  blk_simp
  rw [after0_2]
  frame_out
  idx_vars y
  have hb : (grid0.coords t 0).val < 64 := (grid0.coords t 0).isLt
  have he : ((View.whole main_v0).slice (win0_2.rect t)).emb (ix2 y0 y1)
      = (ix2 ⟨256 * (grid0.coords t 0).val + y0.val, by omega⟩ y1 : S16384x1000.Idx) := by
    blk_ext [idx2 t]
  have h0 : ∀ k : Fin 1000, iblk m c 0 t (ix2 y0 k)
      = m ((c.tc : Thread nD τ).loc main_arg0) (ix2 ⟨256 * (grid0.coords t 0).val + y0.val, by omega⟩ k : S16384x1000.Idx) := fun k => by
    blk_ext [iblk, V, idx0 t]
  have h1 : ∀ k : Fin 1000, iblk m c 1 t (ix2 y0 k)
      = m ((c.tc : Thread nD τ).loc main_arg1) (ix2 ⟨256 * (grid0.coords t 0).val + y0.val, by omega⟩ k : S16384x1000.Idx) := fun k => by
    blk_ext [iblk, V, idx1 t]
  rw [pay_apply, he]
  unfold hard
  simp only [h0, h1]
  rfl

/-- The kernel runs, leaves `hard` of its arguments in its result array, and leaves the arguments unchanged. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = (fun i : S16384x1000.Idx =>
        hard (m ((c.tc : Thread nD τ).loc main_arg0)) (m ((c.tc : Thread nD τ).loc main_arg1)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := Ideal)) _ _).mono (fun _ h c => ⟨(h c).1.trans (arr_eq m c), (h c).2⟩) (Value.run_blocks m ρ)

end Cert.HardSample

end
-- ==== Proof.RefRun.lean ====
/-
  The reference's run: its result array as one term in its two arguments, cut into the softmax, the one-hot of the arg-max, the value kept above one half, and the final setting of one element.
-/
module

public import proofs.«01_k».proof.Proof.Gen.ReferenceIdeal
public import Idealize.ShloMosaic.Lib.Claim
public import Idealize.ShloMosaic.Lib.Quiescent
public import Idealize.ShloMosaic.PureOps.Ideal.Laws

@[expose] public section

set_option maxRecDepth 16384

noncomputable section

namespace Cert.HardSample

open Idealize.ShloMosaic Idealize.ShloMosaic.TcCoe Idealize.SL.Sem Cert.ReferenceIdeal Cert.ReferenceIdeal.Gen

/-- The sums `x + g`, divided by the temperature 1. -/
def refSum (x g : FVec Ideal S16384x1000 .f32) : FVec Ideal S16384x1000 .f32 :=
  Host.divf (addf x g) (broadcastInDim S16384x1000 ![] bcast_S_S16384x1000 (constant S_ .f32 0x3F800000#32))

/-- Each row's maximum. -/
def refMax (s : FVec Ideal S16384x1000 .f32) : FVec Ideal S16384 .f32 :=
  Host.reduce FloatOps.maximumf s (constant S_ .f32 0xFF800000#32) reducesTo_S16384x1000_S16384_d1 h_S_

/-- The exponentials of the elements less their row's maximum, the maximum bounded below by minus infinity. -/
def refExp (s : FVec Ideal S16384x1000 .f32) (mx : FVec Ideal S16384 .f32) : FVec Ideal S16384x1000 .f32 :=
  Host.exp (subf s (broadcastInDim S16384x1000 ![0, 1] bcast_S16384x1_S16384x1000_0_1 (broadcastInDim S16384x1 ![0] bcast_S16384_S16384x1_0
    (maximumf (broadcastInDim S16384 ![] bcast_S_S16384 (constant S_ .f32 0xFF800000#32)) mx))))

/-- Each row's sum. -/
def refTotal (e : FVec Ideal S16384x1000 .f32) : FVec Ideal S16384 .f32 :=
  Host.reduceAdd e (constant S_ .f32 0x00000000#32) reducesTo_S16384x1000_S16384_d1 h_S_

/-- The elements divided by their row's sum. -/
def refSoft (e : FVec Ideal S16384x1000 .f32) (z : FVec Ideal S16384 .f32) : FVec Ideal S16384x1000 .f32 :=
  Host.divf e (broadcastInDim S16384x1000 ![0, 1] bcast_S16384x1_S16384x1000_0_1 (broadcastInDim S16384x1 ![0] bcast_S16384_S16384x1_0 z))

/-- Each row's maximum with the column of its first occurrence. -/
def refArg (h : S16384x1000.ReducesTo [1] S16384) (hu : 0 < S_.numel) (y : FVec Ideal S16384x1000 .f32) : S16384.Idx → EReal × BitVec 32 :=
  Host.argReduce (F := Ideal) (φ := .f32) reducer_argmax_f32_i32 y (iotaInDim S16384x1000 32 1) (constant S_ .f32 0xFF800000#32) (constantI S_ 32 0#32) h hu

/-- The column of each row's pair of a maximum and its column. -/
def refIdx (a : S16384.Idx → EReal × BitVec 32) : IVec S16384 32 := fun j => (a j).2

/-- The one-hot of each row's column. -/
def refHot (i : IVec S16384 32) : FVec Ideal S16384x1000 .f32 :=
  uitofp .f32 (cmpi .eq (broadcastInDim S16384x1000 ![0, 1] bcast_S16384x1_S16384x1000_0_1 (broadcastInDim S16384x1 ![0] bcast_S16384_S16384x1_0 i))
    (broadcastInDim S16384x1000 ![0, 1] bcast_S1x1000_S16384x1000_0_1 (iotaInDim S1x1000 32 1)))

/-- The one-hot less the softmax plus the softmax, kept where it is above one half. -/
def refKeep (h y : FVec Ideal S16384x1000 .f32) : FVec Ideal S16384x1000 .f32 :=
  select (cmpf .ogt (addf (subf h y) y) (broadcastInDim S16384x1000 ![] bcast_S_S16384x1000 (constant S_ .f32 0x3F000000#32)))
    (addf (subf h y) y) (broadcastInDim S16384x1000 ![] bcast_S_S16384x1000 (constant S_ .f32 0x00000000#32))

/-- The row words of the two updates. -/
def refRows : IVec S1x2 32 := broadcastInDim S1x2 ![0, 1] bcast_S1x1_S1x2_0_1 (broadcastInDim S1x1 ![0] bcast_S1_S1x1_0 (iotaInDim S1 32 0))

/-- The column words of the two updates. -/
def refCols : IVec S1x2 32 := broadcastInDim S1x2 ![] bcast_S_S1x2 (constantI S_ 32 1#32)

/-- The pairs of row and column word of the two updates, a negative word counted from the end. -/
def refAt : IVec S1x2x2 32 :=
  concatenate S1x2x2 2
    [⟨S1x2x1, broadcastInDim S1x2x1 ![0, 1] bcast_S1x2_S1x2x1_0_1 (select (cmpi .slt refRows (broadcastInDim S1x2 ![] bcast_S_S1x2 (constantI S_ 32 0#32)))
        (addi refRows (broadcastInDim S1x2 ![] bcast_S_S1x2 (constantI S_ 32 16384#32))) refRows)⟩,
     ⟨S1x2x1, broadcastInDim S1x2x1 ![0, 1] bcast_S1x2_S1x2x1_0_1 (select (cmpi .slt refCols (broadcastInDim S1x2 ![] bcast_S_S1x2 (constantI S_ 32 0#32)))
        (addi refCols (broadcastInDim S1x2 ![] bcast_S_S1x2 (constantI S_ 32 1000#32))) refCols)⟩]
    concatenates_S1x2x1_S1x2x1_S1x2x2_d2

/-- The final setting of elements to 1. -/
def refSet (k : FVec Ideal S16384x1000 .f32) : FVec Ideal S16384x1000 .f32 :=
  Host.scatter scatter_S16384x1000_S1x2x2_S1x2_n_01_01_2 (fun _ b => b) k refAt (broadcastInDim S1x2 ![] bcast_S_S1x2 (constant S_ .f32 0x3F800000#32))

/-- The exponentials of the reference over its arguments. -/
def refE (x g : FVec Ideal S16384x1000 .f32) : FVec Ideal S16384x1000 .f32 := refExp (refSum x g) (refMax (refSum x g))

/-- The reference's softmax of its arguments. -/
def refY (x g : FVec Ideal S16384x1000 .f32) : FVec Ideal S16384x1000 .f32 := refSoft (refE x g) (refTotal (refE x g))

/-- The reference's result. -/
def refResult (x g : FVec Ideal S16384x1000 .f32) : FVec Ideal S16384x1000 .f32 :=
  refSet (refKeep (refHot (refIdx (refArg reducesTo_S16384x1000_S16384_d1 h_S_ (refY x g)))) (refY x g))

variable (m : (ℓ : Loc nD τ sig) → Buf (Elt Ideal) ℓ) (ρ : Dev nD → PrngReg)

/-- The reference runs, leaves `refResult` of its arguments in its result array, and leaves the arguments unchanged. -/
theorem reference_run :
    θ_run (defs (F := Ideal)) (onTc (τ := τ) (main (F := Ideal))) ⟨m, fun _ => 0, ρ⟩ (fun r => ∀ c : Dev nD,
      r.2.mem ((c.tc : Thread nD τ).loc main_v40)
          = refResult (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  unfold refResult refSet refKeep refHot refIdx refArg refY refSoft refTotal refE refExp refMax refSum refAt refRows refCols
  simp -implicitDefEqProofs only [StableHlo.TRef.ofBuf_toBuf, StableHlo.TRef.toBuf, StableHlo.TRef.ofBuf, cast_cast, cast_eq]

/-- The reference runs, leaves its arguments unchanged, and ends with every semaphore counter at zero: it declares none. -/
theorem reference_frame :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run (defs (F := Ideal)) _ _).mono (fun r h => ⟨fun c => (h c).2, sem_eq_zero_of_no_sems rfl r.2⟩) (reference_run m ρ)

end Cert.HardSample

end
-- ==== Proof.ArgMax.lean ====
/-
  The reference's arg-max over a row: the left fold that keeps the larger value, and of two equal values the smaller index word, ends at the first maximal column.
-/
module

public import proofs.«01_k».proof.Proof.Hot
public import proofs.«01_k».proof.Proof.RefRun

@[expose] public section

noncomputable section

namespace Cert.HardSample

open Idealize.ShloMosaic Idealize.ShloMosaic.TcCoe Cert.ReferenceIdeal Cert.ReferenceIdeal.Gen

/-- The pair `p` is at least as good as `q`: its value is larger, or equal and its index no larger. -/
def Best (p q : EReal × BitVec 32) : Prop :=
  q.1 < p.1 ∨ q.1 = p.1 ∧ p.2.toInt ≤ q.2.toInt

theorem Best.refl (p : EReal × BitVec 32) : Best p p := Or.inr ⟨rfl, le_rfl⟩

theorem Best.trans {p q r : EReal × BitVec 32} (h : Best p q) (h' : Best q r) : Best p r := by
  rcases h with h | ⟨e, h⟩ <;> rcases h' with h' | ⟨e', h'⟩
  · exact Or.inl (h'.trans h)
  · exact Or.inl (e' ▸ h)
  · exact Or.inl (e ▸ h')
  · exact Or.inr ⟨e'.trans e, h.trans h'⟩

/-- One step of the fold is one of its two pairs and at least as good as both. -/
theorem reducer_spec (a b : EReal × BitVec 32) :
    (reducer_argmax_f32_i32 (F := Ideal) a b = a ∨ reducer_argmax_f32_i32 (F := Ideal) a b = b)
      ∧ Best (reducer_argmax_f32_i32 (F := Ideal) a b) a ∧ Best (reducer_argmax_f32_i32 (F := Ideal) a b) b := by
  obtain ⟨x, i⟩ := a
  obtain ⟨y, j⟩ := b
  have hgt : ∀ u v : EReal, FloatOps.cmpf (F := Ideal) (φ := .f32) .ogt u v = BitVec.ofBool (decide (v < u)) := fun _ _ => rfl
  have hne : ∀ u : EReal, FloatOps.cmpf (F := Ideal) (φ := .f32) .une u u = 0#1 := fun u => by
    show BitVec.ofBool (decide (u ≠ u)) = 0#1
    simp
  have heq : ∀ u v : EReal, FloatOps.cmpf (F := Ideal) (φ := .f32) .oeq u v = BitVec.ofBool (decide (u = v)) := fun _ _ => rfl
  rcases lt_trichotomy x y with h | rfl | h
  · have e : reducer_argmax_f32_i32 (F := Ideal) (x, i) (y, j) = (y, j) := by
      simp [reducer_argmax_f32_i32, hgt, hne, heq, Scalar.select, IntOp.ori, IntOp.andi, h.not_gt, h.ne]
    rw [e]
    exact ⟨Or.inr rfl, Or.inl h, Best.refl _⟩
  · by_cases hij : i.toInt < j.toInt
    · have e : reducer_argmax_f32_i32 (F := Ideal) (x, i) (x, j) = (x, i) := by
        simp [reducer_argmax_f32_i32, hgt, hne, heq, Scalar.select, IntOp.ori, IntOp.andi, IntOp.cmpi, BitVec.slt_eq_decide, hij]
      rw [e]
      exact ⟨Or.inl rfl, Best.refl _, Or.inr ⟨rfl, hij.le⟩⟩
    · have e : reducer_argmax_f32_i32 (F := Ideal) (x, i) (x, j) = (x, j) := by
        simp [reducer_argmax_f32_i32, hgt, hne, heq, Scalar.select, IntOp.ori, IntOp.andi, IntOp.cmpi, BitVec.slt_eq_decide, hij]
      rw [e]
      exact ⟨Or.inr rfl, Or.inr ⟨rfl, not_lt.1 hij⟩, Best.refl _⟩
  · have e : reducer_argmax_f32_i32 (F := Ideal) (x, i) (y, j) = (x, i) := by
      simp [reducer_argmax_f32_i32, hgt, hne, heq, Scalar.select, IntOp.ori, IntOp.andi, h, h.ne']
    rw [e]
    exact ⟨Or.inl rfl, Best.refl _, Or.inl h⟩

/-- The fold ends at its initial pair or at a pair of the list, and that pair is at least as good as all of them. -/
theorem foldl_spec (l : List (EReal × BitVec 32)) (p : EReal × BitVec 32) :
    (l.foldl (reducer_argmax_f32_i32 (F := Ideal)) p = p ∨ l.foldl (reducer_argmax_f32_i32 (F := Ideal)) p ∈ l)
      ∧ Best (l.foldl (reducer_argmax_f32_i32 (F := Ideal)) p) p
      ∧ ∀ q ∈ l, Best (l.foldl (reducer_argmax_f32_i32 (F := Ideal)) p) q := by
  induction l generalizing p with
  | nil => exact ⟨Or.inl rfl, Best.refl _, nofun⟩
  | cons b l ih =>
    rw [List.foldl_cons]
    obtain ⟨hm, hp, hl⟩ := ih (reducer_argmax_f32_i32 (F := Ideal) p b)
    obtain ⟨hs, ha, hb⟩ := reducer_spec p b
    refine ⟨?_, hp.trans ha, fun q hq => ?_⟩
    · rcases hm with h | h
      · rw [h]
        rcases hs with h' | h'
        · exact Or.inl h'
        · exact Or.inr (List.mem_cons.2 (Or.inl h'))
      · exact Or.inr (List.mem_cons_of_mem _ h)
    · rcases List.mem_cons.1 hq with rfl | hq
      · exact hp.trans hb
      · exact hl q hq

/-- The fold from minus infinity and index 0 over a list that holds exactly the row's pairs of value and column word ends at the first maximal column's word. -/
theorem IsTop.foldl_argmax {s : Fin 1000 → EReal} {t : Fin 1000} (ht : IsTop s t) (l : List (EReal × BitVec 32))
    (hl : ∀ q, q ∈ l ↔ ∃ k : Fin 1000, q = (s k, BitVec.ofNat 32 k.val)) :
    (l.foldl (reducer_argmax_f32_i32 (F := Ideal)) (⊥, 0#32)).2 = BitVec.ofNat 32 t.val := by
  obtain ⟨hm, -, hb⟩ := foldl_spec l (⊥, 0#32)
  have hbt := hb _ ((hl _).2 ⟨t, rfl⟩)
  generalize l.foldl (reducer_argmax_f32_i32 (F := Ideal)) (⊥, 0#32) = p at hm hbt ⊢
  rcases hm with rfl | hm
  · rcases hbt with h | ⟨h, -⟩
    · exact absurd h not_lt_bot
    · have h0 : t ≤ 0 := ht.2 0 (le_antisymm (ht.1 0) (h.trans_le bot_le))
      rw [Fin.le_zero_iff.1 h0]
      rfl
  · obtain ⟨k, rfl⟩ := (hl _).1 hm
    rcases hbt with h | ⟨h, hi⟩
    · exact absurd h (not_lt.2 (ht.1 k))
    · simp only [toInt_ofNat_col] at hi
      have : k = t := le_antisymm (by exact_mod_cast hi) (ht.2 k h.symm)
      rw [this]

/-- The row that an element of a matrix falls in when its columns are reduced is its first coordinate. -/
theorem drop_eq (h : S16384x1000.ReducesTo [1] S16384) (a : Fin 16384) (b : Fin 1000) : h.drop (ix2 a b) = ix1 a := by
  funext d
  match d with
  | ⟨0, _⟩ => rfl

/-- The second halves of an array of pairs, read at a row. -/
theorem refIdx_row (a : S16384.Idx → EReal × BitVec 32) (r : Fin 16384) : refIdx a (ix1 r) = (a (ix1 r)).2 := rfl

/-- The reference's pair of maximum and column in a row is the left fold of its reducer over the row's pairs, started from minus infinity and 0. -/
theorem refArg_row (h : S16384x1000.ReducesTo [1] S16384) (hu : 0 < S_.numel) (y : FVec Ideal S16384x1000 .f32) (r : Fin 16384) :
    refArg h hu y (ix1 r)
      = (Host.argReduceFiber y (iotaInDim S16384x1000 32 1) h (ix1 r)).foldl (reducer_argmax_f32_i32 (F := Ideal)) (⊥, 0#32) := by
  unfold refArg
  rw [Ideal.argReduce_eq_reduce2, Host.reduce2_eq_foldl_fiber]
  have e : ((constant (F := Ideal) S_ .f32 0xFF800000#32 (Shape.Idx.first hu) : EReal), constantI S_ 32 0#32 (Shape.Idx.first hu)) = (⊥, 0#32) :=
    Prod.ext ofBits_neg_inf rfl
  exact congrArg (fun p => (Host.argReduceFiber y (iotaInDim S16384x1000 32 1) h (ix1 r)).foldl (reducer_argmax_f32_i32 (F := Ideal)) p) e

/-- The reference's arg-max of `y` is, in each row, the word of the row's first maximal column. -/
theorem refIdx_apply (h : S16384x1000.ReducesTo [1] S16384) (hu : 0 < S_.numel) (y : FVec Ideal S16384x1000 .f32) (r : Fin 16384) (t : Fin 1000)
    (ht : IsTop (fun k => y (ix2 r k)) t) : refIdx (refArg h hu y) (ix1 r) = BitVec.ofNat 32 t.val := by
  refine (refIdx_row _ r).trans ((congrArg Prod.snd (refArg_row h hu y r)).trans (ht.foldl_argmax _ fun q => ?_))
  unfold Host.argReduceFiber
  simp only [List.mem_map, List.mem_filter, List.mem_finRange, true_and, decide_eq_true_eq]
  constructor
  · rintro ⟨n, hn, rfl⟩
    obtain ⟨a, b, hab⟩ : ∃ (a : Fin 16384) (b : Fin 1000), S16384x1000.rowMajor.symm n = ix2 a b := ⟨_, _, eq_ix2 _⟩
    rw [hab] at hn ⊢
    rw [drop_eq] at hn
    obtain rfl : a = r := congrFun hn 0
    exact ⟨b, rfl⟩
  · rintro ⟨k, rfl⟩
    exact ⟨S16384x1000.rowMajor (ix2 r k), by rw [Equiv.symm_apply_apply, drop_eq], by rw [Equiv.symm_apply_apply]; rfl⟩

end Cert.HardSample

end
-- ==== Proof.Softmax.lean ====
/-
  One row of the reference after its arg-max: the softmax `y`, and the straight-through combination `(one-hot - y) + y`, kept where it is above one half.
  In a row with an element above minus infinity this is `hot` of the row.
-/
module

public import proofs.«01_k».proof.Proof.Hot

@[expose] public section

noncomputable section

namespace Cert.HardSample

open Idealize.ShloMosaic

/-- An exponential term of a row shifted by `m`. -/
def expo (s : Fin 1000 → EReal) (m : EReal) (k : Fin 1000) : EReal := Ideal.exp (s k - m)

/-- The softmax of a row whose maximum is `m`. -/
def soft (s : Fin 1000 → EReal) (m : EReal) (k : Fin 1000) : EReal := Ideal.div (expo s m k) (∑ l, expo s m l)

/-- The combination `(one-hot - y) + y` of a softmax value `y`, kept where it is above one half and 0 elsewhere. -/
def through (h y : EReal) : EReal := if ((1 / 2 : ℝ) : EReal) < (h - y) + y then (h - y) + y else 0

/-- A row whose maximum is plus infinity has the softmax minus infinity everywhere: every shifted element is minus infinity, and zero is divided by zero. -/
theorem soft_top (s : Fin 1000 → EReal) (k : Fin 1000) : soft s ⊤ k = ⊥ := by
  have e : ∀ l, expo s ⊤ l = 0 := fun l => by
    unfold expo
    rw [EReal.sub_top, Ideal.exp_bot]
  unfold soft
  simp only [e, Finset.sum_const_zero]
  simp [Ideal.div]

/-- A softmax of minus infinity leaves nothing above one half. -/
theorem through_bot (h : EReal) : through h ⊥ = 0 := by
  unfold through
  rw [EReal.add_bot, if_neg not_lt_bot]

/-- A real softmax value cancels. -/
theorem through_coe (p : Prop) [Decidable p] (y : ℝ) : through (if p then 1 else 0) (y : EReal) = if p then 1 else 0 := by
  have e : ∀ a : ℝ, ((a : EReal) - (y : EReal)) + (y : EReal) = (a : EReal) := fun a => by
    rw [← EReal.coe_sub, ← EReal.coe_add, sub_add_cancel]
  unfold through
  split
  · have h1 := e 1
    rw [EReal.coe_one] at h1
    rw [h1, if_pos]
    rw [← EReal.coe_one, EReal.coe_lt_coe_iff]
    norm_num
  · have h0 := e 0
    rw [EReal.coe_zero] at h0
    rw [h0]
    simp

/-- A sum of real numbers, taken in the extended reals, is the sum. -/
theorem coe_sum (ε : Fin 1000 → ℝ) : ∑ l, ((ε l : ℝ) : EReal) = ((∑ l, ε l : ℝ) : EReal) :=
  (map_sum (⟨⟨Real.toEReal, EReal.coe_zero⟩, EReal.coe_add⟩ : ℝ →+ EReal) ε Finset.univ).symm

/-- The terms of a row whose maximum `μ` is real: each is a real number between 0 and 1, monotone in the row's element. -/
theorem exists_expo (s : Fin 1000 → EReal) (μ : ℝ) (hs : ∀ k, s k ≤ (μ : EReal)) :
    ∃ ε : Fin 1000 → ℝ, (∀ k, expo s μ k = (ε k : EReal)) ∧ (∀ k, 0 ≤ ε k) ∧ (∀ k, s k = (μ : EReal) → ε k = 1)
      ∧ ∀ k, s k ≠ (μ : EReal) → ε k < 1 := by
  have h : ∀ k, ∃ e : ℝ, expo s μ k = (e : EReal) ∧ 0 ≤ e ∧ (s k = (μ : EReal) → e = 1) ∧ (s k ≠ (μ : EReal) → e < 1) := fun k => by
    have hk := hs k
    unfold expo
    generalize s k = a at hk
    induction a using EReal.rec with
    | bot => exact ⟨0, by rw [EReal.bot_sub]; rfl, le_rfl, fun h => absurd h (EReal.bot_ne_coe μ), fun _ => zero_lt_one⟩
    | top => exact absurd hk (not_le.2 (EReal.coe_lt_top μ))
    | coe x =>
      have hx : x ≤ μ := EReal.coe_le_coe_iff.1 hk
      refine ⟨Real.exp (x - μ), by rw [← EReal.coe_sub, Ideal.exp_coe], (Real.exp_pos _).le, fun h => ?_, fun h => ?_⟩
      · rw [EReal.coe_eq_coe_iff.1 h, sub_self, Real.exp_zero]
      · rw [Real.exp_lt_one_iff]
        exact sub_neg.2 (lt_of_le_of_ne hx fun e => h (congrArg _ e))
  choose ε h using h
  exact ⟨ε, fun k => (h k).1, fun k => (h k).2.1, fun k => (h k).2.2.1, fun k => (h k).2.2.2⟩

/-- The softmax of a row whose maximum is real is real, and its first maximal column is the row's. -/
theorem soft_coe {s : Fin 1000 → EReal} {t : Fin 1000} (ht : IsTop s t) {μ : ℝ} (hμ : s t = (μ : EReal)) :
    (∀ k, ∃ y : ℝ, soft s μ k = (y : EReal)) ∧ IsTop (soft s μ) t := by
  obtain ⟨ε, he, h0, h1, hlt⟩ := exists_expo s μ fun k => hμ ▸ ht.1 k
  have hsum : ∑ l, expo s μ l = ((∑ l, ε l : ℝ) : EReal) := by
    simp only [he]
    exact coe_sum ε
  have hpos : 0 < ∑ l, ε l :=
    lt_of_lt_of_le (by rw [h1 t hμ]; exact zero_lt_one) (Finset.single_le_sum (f := ε) (fun l _ => h0 l) (Finset.mem_univ t))
  have hy : ∀ k, soft s μ k = ((ε k * (1 / ∑ l, ε l) : ℝ) : EReal) := fun k => by
    unfold soft
    rw [hsum, he, Ideal.div_coe hpos.ne', EReal.coe_mul]
  have hinv : 0 < 1 / ∑ l, ε l := one_div_pos.2 hpos
  refine ⟨fun k => ⟨_, hy k⟩, fun k => ?_, fun k hk => ?_⟩
  · rw [hy, hy, EReal.coe_le_coe_iff, mul_le_mul_iff_left₀ hinv, h1 t hμ]
    by_cases h : s k = (μ : EReal)
    · exact (h1 k h).le
    · exact (hlt k h).le
  · rw [hy, hy, EReal.coe_eq_coe_iff, mul_left_inj' hinv.ne', h1 t hμ] at hk
    exact ht.2 k (by_contra fun h => (hlt k (hμ ▸ h)).ne hk)

/-- A row with an element above minus infinity: the reference's row, over any column `u` that is the softmax's first maximal one, is `hot` of the row. -/
theorem through_eq_hot {s : Fin 1000 → EReal} {t u : Fin 1000} (ht : IsTop s t) (hs : ⊥ < s t) (hu : IsTop (soft s (s t)) u) (j : Fin 1000) :
    through (if u = j then 1 else 0) (soft s (s t) j) = hot s j := by
  rw [ht.hot_eq]
  generalize hm : s t = a at hs hu
  induction a using EReal.rec with
  | bot => exact absurd hs (lt_irrefl _)
  | top => rw [soft_top, through_bot, if_neg fun h => lt_irrefl _ h.2]
  | coe μ =>
    obtain ⟨hy, htop⟩ := soft_coe ht hm
    obtain ⟨y, hy⟩ := hy j
    rw [hy, through_coe]
    exact if_congr (by rw [hu.unique htop]; exact ⟨fun h => ⟨h.symm, EReal.coe_lt_top μ⟩, fun h => h.1.symm⟩) rfl rfl

end Cert.HardSample

end
-- ==== Proof.RefRow.lean ====
/-
  The reference's result read at an element: `hard` of its arguments, in every row with an element above minus infinity.
-/
module

public import proofs.«01_k».proof.Proof.ArgMax
public import proofs.«01_k».proof.Proof.Softmax
public import proofs.«01_k».proof.Proof.RefRun
public import Idealize.ShloMosaic.Lib.Routing.OpsSet

@[expose] public section

set_option maxRecDepth 16384

noncomputable section

namespace Cert.HardSample

open Idealize.ShloMosaic Idealize.ShloMosaic.TcCoe Cert.ReferenceIdeal Cert.ReferenceIdeal.Gen

/-- Division by the temperature 1 leaves the sum. -/
theorem refSum_apply (x g : FVec Ideal S16384x1000 .f32) (r : Fin 16384) (j : Fin 1000) :
    refSum x g (ix2 r j) = x (ix2 r j) + g (ix2 r j) := by
  pointwise [refSum]
  rw [← EReal.coe_one, Ideal.div_coe one_ne_zero, one_div_one, EReal.coe_one, mul_one]

/-- Each row's maximum. -/
theorem refMax_apply (s : FVec Ideal S16384x1000 .f32) (r : Fin 16384) :
    refMax s (ix1 r) = Finset.univ.fold max ⊥ fun k => s (ix2 r k) := by
  pointwise [refMax]
  rw [ofBits_neg_inf]

/-- The exponentials of a row, read at a column. -/
theorem refExp_apply (s : FVec Ideal S16384x1000 .f32) (mx : FVec Ideal S16384 .f32) (r : Fin 16384) (j : Fin 1000) :
    refExp s mx (ix2 r j) = expo (fun k => s (ix2 r k)) (mx (ix1 r)) j := by
  pointwise [refExp]
  rw [ofBits_neg_inf, max_eq_right bot_le]
  rfl

/-- Each row's sum. -/
theorem refTotal_apply (e : FVec Ideal S16384x1000 .f32) (r : Fin 16384) :
    refTotal e (ix1 r) = ∑ k : Fin 1000, e (ix2 r k) := by
  pointwise [refTotal]

/-- The quotient of a row by a number, read at a column. -/
theorem refSoft_apply (e : FVec Ideal S16384x1000 .f32) (z : FVec Ideal S16384 .f32) (r : Fin 16384) (j : Fin 1000) :
    refSoft e z (ix2 r j) = Ideal.div (e (ix2 r j)) (z (ix1 r)) := by
  pointwise [refSoft]

/-- The one-hot of a row's column, read at a column. -/
theorem refHot_apply (i : IVec S16384 32) (r : Fin 16384) (j u : Fin 1000) (hu : i (ix1 r) = BitVec.ofNat 32 u.val) :
    refHot i (ix2 r j) = if u = j then 1 else 0 := by
  pointwise [refHot]
  rw [hu]
  show (((IntOp.cmpi .eq (BitVec.ofNat 32 u.val) (BitVec.ofNat 32 j.val)).toNat : ℝ) : EReal) = _
  by_cases h : u = j
  · rw [h, if_pos rfl]
    simp [IntOp.cmpi]
  · have h' : BitVec.ofNat 32 u.val ≠ BitVec.ofNat 32 j.val := fun e => h (ofNat_col_inj e)
    rw [if_neg h]
    simp [IntOp.cmpi, h']

/-- The kept value, read at an element. -/
theorem refKeep_apply (h y : FVec Ideal S16384x1000 .f32) (r : Fin 16384) (j : Fin 1000) :
    refKeep h y (ix2 r j) = through (h (ix2 r j)) (y (ix2 r j)) := by
  pointwise [refKeep]
  rw [ofBits_half]
  rfl

/-- Both updates go to row 0 and column 1. -/
theorem refAt_apply (b : Fin 2) : refAt (ix3 0 b 0) = 0#32 ∧ refAt (ix3 0 b 1) = 1#32 := by
  constructor
  · pointwise [refAt, refRows, refCols]
    rfl
  · pointwise [refAt, refRows, refCols]
    rfl

/-- The final setting: the element at row 0 and column 1 becomes 1, every other stays. -/
theorem refSet_apply (k : FVec Ideal S16384x1000 .f32) (r : Fin 16384) (j : Fin 1000) :
    refSet k (ix2 r j) = if r.val = 0 ∧ j.val = 1 then 1 else k (ix2 r j) := by
  have hone : ∀ q : S1x2.Idx, (broadcastInDim S1x2 ![] bcast_S_S1x2 (constant (F := Ideal) S_ .f32 0x3F800000#32) : S1x2.Idx → EReal) q = 1 := fun q => by
    pointwise []
  have hland : ∀ q : S1x2.Idx, ScatterDims.resultIdx? scatter_S16384x1000_S1x2x2_S1x2_n_01_01_2 q refAt = some (ix2 r j) ↔ r.val = 0 ∧ j.val = 1 := fun q => by
    obtain ⟨a, b, rfl⟩ : ∃ (a : Fin 1) (b : Fin 2), q = ix2 a b := ⟨q 0, q 1, eq_ix2 q⟩
    obtain rfl : a = 0 := Subsingleton.elim _ _
    have h := Routing.scatter_lands2 scatter_S16384x1000_S1x2x2_S1x2_n_01_01_2 rfl rfl rfl refAt 0 b r j
    rw [← ix2_eq_valueIdx, ← ix2_eq_valueIdx, ← ix3_eq_valueIdx, ← ix3_eq_valueIdx, (refAt_apply b).1, (refAt_apply b).2] at h
    refine h.trans ?_
    have h0 : (0#32).toInt = 0 := rfl
    have h1 : (1#32).toInt = 1 := rfl
    rw [h0, h1]
    omega
  unfold refSet
  split
  · next h => exact Routing.scatter_set_hit _ _ _ _ _ _ (fun q _ => hone q) (ix2 0 0) ((hland _).2 h)
  · next h => exact Routing.scatter_set_miss _ _ _ _ _ fun q hq => h ((hland q).1 hq)

/-- The whole result. -/
theorem refResult_apply (x g : FVec Ideal S16384x1000 .f32) (r : Fin 16384) (j : Fin 1000) (hr : ⊥ < Finset.univ.fold max ⊥ fun k => x (ix2 r k) + g (ix2 r k)) :
    refResult x g (ix2 r j) = hard x g r j := by
  obtain ⟨t, ht⟩ := exists_isTop fun k => x (ix2 r k) + g (ix2 r k)
  rw [ht.fold_max] at hr
  have he : ∀ k, refE x g (ix2 r k) = expo (fun k => x (ix2 r k) + g (ix2 r k)) (x (ix2 r t) + g (ix2 r t)) k := fun k => by
    unfold refE
    simp only [refExp_apply, refMax_apply, refSum_apply, ht.fold_max]
  have hy : ∀ k, refY x g (ix2 r k) = soft (fun k => x (ix2 r k) + g (ix2 r k)) (x (ix2 r t) + g (ix2 r t)) k := fun k => by
    unfold refY soft
    simp only [refSoft_apply, refTotal_apply, he]
  obtain ⟨u, hu⟩ := exists_isTop fun k => refY x g (ix2 r k)
  have hi := refIdx_apply reducesTo_S16384x1000_S16384_d1 h_S_ (refY x g) r u hu
  unfold refResult hard
  rw [refSet_apply, refKeep_apply, refHot_apply _ r j u hi]
  simp only [hy] at hu ⊢
  rw [through_eq_hot ht hr hu j]

end Cert.HardSample

end
-- ==== Proof.PreRow.lean ====
/-
  What the precondition says of a row: that some element of it is above minus infinity.
-/
module

public import proofs.«01_k».proof.Pre_rows_not_all_minus_infinity
public import proofs.«01_k».proof.Proof.Hot
public import Idealize.ShloMosaic.Lib.Pointwise

@[expose] public section

set_option maxRecDepth 16384

noncomputable section

namespace Cert.HardSample

open Idealize.ShloMosaic Cert.Pre_rows_not_all_minus_infinity

variable [Facts]

/-- Each row's maximum. -/
def preMax (s : FVec Ideal S16384x1000 .f32) : FVec Ideal S16384 .f32 :=
  Host.reduce FloatOps.maximumf s (constant S_ .f32 0xFF800000#32) Facts.reducesTo_S16384x1000_S16384_d1 Facts.h_S_

/-- The comparison of each row's maximum with minus infinity. -/
def preAbove (mx : FVec Ideal S16384 .f32) : IVec S16384 1 :=
  cmpf .ogt mx (broadcastInDim S16384 ![] Facts.bcast_S_S16384 (constant (F := Ideal) S_ .f32 0xFF800000#32))

/-- The precondition compares the maximum of each row of sums with minus infinity. -/
theorem pre_eq (x g : FVec Ideal S16384x1000 .f32) : fn (F := Ideal) x g = preAbove (preMax (addf x g)) := by
  unfold fn preAbove preMax
  rfl

/-- Each row's maximum, read at the row. -/
theorem preMax_apply (s : FVec Ideal S16384x1000 .f32) (r : Fin 16384) :
    preMax s (ix1 r) = Finset.univ.fold max ⊥ fun k => s (ix2 r k) := by
  pointwise [preMax]
  rw [ofBits_neg_inf]

/-- The comparison, read at a row. -/
theorem preAbove_apply (mx : FVec Ideal S16384 .f32) (r : Fin 16384) :
    preAbove mx (ix1 r) = BitVec.ofBool (decide (⊥ < mx (ix1 r))) := by
  pointwise [preAbove]
  rw [ofBits_neg_inf]

/-- Where the precondition is all ones, every row's maximum is above minus infinity. -/
theorem row_above (x g : FVec Ideal S16384x1000 .f32) (hp : fn (F := Ideal) x g = fun _ => 1#1) (r : Fin 16384) :
    ⊥ < Finset.univ.fold max ⊥ fun k => x (ix2 r k) + g (ix2 r k) := by
  have h := congrFun hp (ix1 r)
  rw [pre_eq, preAbove_apply, preMax_apply] at h
  by_contra hn
  have hf : ¬ ⊥ < Finset.univ.fold max ⊥ fun k => addf x g (ix2 r k) := hn
  rw [decide_eq_false hf] at h
  exact absurd h (by decide)

end Cert.HardSample

end
-- ==== Proof.lean ====
/-
  The proof of `Cert.Claim`: both programs run and end quiescent, and where every row of sums has an element above minus infinity
  their results are the same array, `hard` of the arguments.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.Pre_rows_not_all_minus_infinity
public import proofs.«01_k».proof.Proof.KernelArray
public import proofs.«01_k».proof.Proof.RefRow
public import proofs.«01_k».proof.Proof.PreRow

@[expose] public section

set_option maxRecDepth 16384

noncomputable section

namespace Cert.Proof

open Idealize.ShloMosaic Idealize.SL.Sem Cert.HardSample

/-- Under the precondition the reference's result is `hard` of its arguments at every element. -/
theorem refResult_eq (x g : FVec Ideal Cert.ReferenceIdeal.S16384x1000 .f32)
    (hp : Cert.Pre_rows_not_all_minus_infinity.fn (F := Ideal) x g = fun _ => 1#1) :
    refResult x g = fun i : Cert.ReferenceIdeal.S16384x1000.Idx => hard x g (i 0) (i 1) := by
  funext y
  obtain ⟨r, j, rfl⟩ : ∃ (r : Fin 16384) (j : Fin 1000), y = ix2 r j := ⟨y 0, y 1, eq_ix2 y⟩
  exact refResult_apply x g r j (row_above x g hp r)

/-- From memories agreeing on the arguments, the kernel and the reference end with the same array. -/
theorem same_result : Cert.algebraic_KernelIdeal_ReferenceIdeal_pre_rows_not_all_minus_infinity := by
  intro m g m' g' hpre hagree
  refine ⟨fun c i => hard (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) (i 0) (i 1), kernel_run m g, ?_⟩
  refine (θ_run (Cert.ReferenceIdeal.defs (F := Ideal)) _ _).mono (fun r h c => ⟨(h c).1.trans ?_, (h c).2⟩) (reference_run m' g')
  rw [(hagree c).1, (hagree c).2]
  exact refResult_eq _ _ (hpre c)

/-- The certificate: both programs run, change no argument and end quiescent, and their results agree under the precondition. -/
theorem claim : Cert.Claim := ⟨Cert.Kernel.Gen.facts, Cert.KernelIdeal.Gen.facts, Cert.ReferenceIdeal.Gen.facts, Cert.Pre_rows_not_all_minus_infinity.Gen.facts,
  fun m g _ => Cert.Kernel.Gen.frame m g,
  fun m g _ => Cert.KernelIdeal.Gen.frame m g,
  fun m g _ => Cert.KernelIdeal.Gen.frame m g,
  fun m g _ => reference_frame m g,
  fun m g _ => reference_frame m g,
  trivial,
  same_result⟩

end Cert.Proof

end
